-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S1024x512 : Shape := ⟨2, ![1024, 512]⟩
abbrev S_ : Shape := ⟨0, ![]⟩

abbrev nBuf : Space → Nat
  | .hbm => 2
  | .vmem => 1
  | .smem => 0
  | _ => 0

abbrev bufTy : (tb : Table) → Fin (tcTables nBuf tb) → BufTy
  | .hbm, ⟨0, _⟩ => ⟨S512x512, .f32⟩
  | .hbm, ⟨1, _⟩ => ⟨S1024x512, .f32⟩
  | .local _ .vmem, ⟨0, _⟩ => ⟨S512x512, .f32⟩
  | _, _ => ⟨S512x512, .f32⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v11 : BitVec 32 := Scalar.muli v2 c8_i32_4
  let v12 : BitVec 32 := Scalar.addi c0_i32 v11
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5 : BitVec 32 := 4#32
  let v13 : BitVec 32 := Scalar.muli v9 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v17 : BitVec 32 := Scalar.muli v5 c512_i32
  let c0_i32_12 : BitVec 32 := 0#32
  ![v17.toNat, 0]
def k0_dev2 (d0 : Dev nD) : Nat :=
  let c0_i32_9 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_8 : BitVec 32 := 8#32
  let v18 : BitVec 32 := Scalar.muli v2 c8_i32_8
  let v19 : BitVec 32 := Scalar.addi c0_i32_9 v18
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_10 : BitVec 32 := 4#32
  let v20 : BitVec 32 := Scalar.muli v9 c4_i32_10
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v22 : BitVec 32 := Scalar.muli v8 c1_i32_11
  let v23 : BitVec 32 := Scalar.addi v21 v22
  v23.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x512 : Shape := ⟨2, ![1024, 512]⟩

abbrev nBuf : Space → Nat
  | .hbm => 1
  | .vmem => 0
  | .smem => 0
  | _ => 0

abbrev bufTy : (tb : Table) → Fin (tcTables nBuf tb) → BufTy
  | .hbm, ⟨0, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.RowsKernelIdeal.lean ====
/-
The two halves of the gathered array, and what the program puts in them.

Devices come in pairs that differ only in their coordinate on the mesh axis `y`. Each device of a pair holds one
half of the whole array and, at the end, both of them hold all of it: the upper half from the device at `y = 0`,
the lower half from the device at `y = 1`. This module says which device is the other one of the pair, which
elements of the result each device's own half is, and what the result holds at the end.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The pairs -/

/-- The device's coordinate on the mesh axis `y`: which half of the array it holds. -/
def side (c : Dev nD) : ℕ := c.val / 4 % 2

/-- The other device of the pair: the same `x` and `z`, the other `y`. -/
def peer (c : Dev nD) : Dev nD := ⟨if c.val / 4 % 2 = 0 then (c.val + 4) % 16 else c.val - 4, by
  have := c.isLt; split <;> simp only [nD] at * <;> omega⟩

theorem peer_peer : ∀ c : Dev nD, peer (peer c) = c := by decide
theorem side_peer : ∀ c : Dev nD, side (peer c) = 1 - side c := by decide
theorem side_lt (c : Dev nD) : side c < 2 := Nat.mod_lt _ (by decide)

/-- The pairing is a bijection of the devices (its own inverse). -/
def pairing : Dev nD ≃ Dev nD := ⟨peer, peer, peer_peer, peer_peer⟩

/-- The device the kernel's barrier signal names is the other one of the pair, -/
theorem signal_dev : ∀ c : Dev nD, (⟨k0_dev1 c, k0_dev1_lt c⟩ : Dev nD) = peer c := by decide +kernel
/-- and so is the device its remote copy names. -/
theorem copy_dev : ∀ c : Dev nD, (⟨k0_dev2 c, k0_dev2_lt c⟩ : Dev nD) = peer c := by decide +kernel

/-! ## The halves -/

/-- What a device's result buffer holds. -/
abbrev Whole (F : FTy → Type) : Type := (main_v1 : Ref sig .tc).ty.Contents (Elt F)
/-- What a device's staged block holds. -/
abbrev Block (F : FTy → Type) : Type := (cc0_stg0_0 : Ref sig .tc).ty.Contents (Elt F)

/-- The staged block. -/
abbrev xM : Memref sig .tc .vmem S512x512 .f32 := Memref.whole cc0_stg0_0

/-- The half of the result that device `d`'s block goes to, on either device of the pair: 512 rows from `512 · side d`. -/
abbrev half (d : Dev nD) : Memref sig .tc .hbm S512x512 .f32 :=
  (Memref.whole main_v1).slice (Rect.unit (s := S1024x512) (k0_off1 d) S512x512.size (k0_off1_inb d)) (fun _ => rfl)

/-- An element is in device `d`'s half exactly when its row, counted in blocks of 512, is `d`'s side. -/
theorem mem_half (d : Dev nD) (i : S1024x512.Idx) : i ∈ (half d).view.set ↔ (i 0).val / 512 = side d := by
  have h0 : (i 0).val < 1024 := (i 0).isLt
  have h1 : (i 1).val < 512 := (i 1).isLt
  have hs := side_lt d
  show i ∈ ((View.whole main_v1).slice (Rect.unit (s := S1024x512) (k0_off1 d) S512x512.size (k0_off1_inb d))).set ↔ _
  rw [View.set_slice_whole, Rect.mem_set_unit]
  have e0 : k0_off1 d 0 = 512 * side d := by rw [k0_off1_eq]; rfl
  have e1 : k0_off1 d 1 = 0 := by rw [k0_off1_eq]; rfl
  constructor
  · intro h
    have := h 0
    rw [e0] at this
    have h2 : S512x512.size 0 = 512 := rfl
    rw [h2] at this
    omega
  · intro h a
    fin_cases a
    · show k0_off1 d 0 ≤ (i 0).val ∧ (i 0).val < k0_off1 d 0 + 512
      rw [e0]; omega
    · show k0_off1 d 1 ≤ (i 1).val ∧ (i 1).val < k0_off1 d 1 + 512
      rw [e1]; omega

/-- The halves of a pair have no element in common, -/
theorem half_disjoint (c : Dev nD) : Disjoint (half c).view.set (half (peer c)).view.set :=
  Finset.disjoint_left.mpr fun i h h' => by
    have e := (mem_half c i).mp h
    have e' := (mem_half (peer c) i).mp h'
    rw [side_peer] at e'
    have := side_lt c
    omega

/-- and are the whole array together. -/
theorem half_union (c : Dev nD) : (half c).view.set ∪ (half (peer c)).view.set = Finset.univ :=
  Finset.eq_univ_iff_forall.mpr fun i => by
    have h0 : (i 0).val < 1024 := (i 0).isLt
    rw [Finset.mem_union]
    by_cases h : (i 0).val / 512 = side c
    · exact .inl ((mem_half c i).mpr h)
    · refine .inr ((mem_half (peer c) i).mpr ?_)
      rw [side_peer]
      have := side_lt c
      omega

/-! ## The contents -/

variable (m : (ℓ : Loc nD τ sig) → Buf (Elt F) ℓ)

/-- Device `c`'s block, as the pipeline stages it. -/
def xin (c : Dev nD) : Block F := iblk m c 0 t0_0

/-- `f` with device `d`'s block written into its half. -/
def put (d : Dev nD) (f : Whole F) : Whole F := (half d).view.write (Elt F) f (xM.view.read (Elt F) (xin m d)) Finset.univ

/-- The result on device `c`: its block and the other device's, each in its half. -/
def gathered (c : Dev nD) : Whole F := put m c (put m (peer c) (m ((c : Thread nD τ).loc main_v1)))

/-- In the half written, the result does not depend on what was there. -/
theorem put_on (d : Dev nD) (f g : Whole F) : ∀ i ∈ (half d).view.set, put m d f i = put m d g i := by
  intro i hi
  obtain ⟨x, -, rfl⟩ := Finset.mem_map.mp hi
  unfold put
  rw [View.write_emb_of_mem _ _ (Finset.mem_univ x), View.write_emb_of_mem _ _ (Finset.mem_univ x)]

/-- Outside the half written nothing changes. -/
theorem put_off (d : Dev nD) (f : Whole F) (i) (hi : i ∉ (half d).view.set) : put m d f i = f i :=
  View.write_of_not_mem _ _ _ hi

/-- In its own half the result is its own block, whatever the block was written over. -/
theorem gathered_own (c : Dev nD) (f : Whole F) : ∀ i ∈ (half c).view.set, put m c f i = gathered m c i :=
  fun i hi => put_on m c _ _ i hi

/-- In the other half it is the other device's block, whatever that was written over. -/
theorem gathered_other (c : Dev nD) (f : Whole F) : ∀ i ∈ (half (peer c)).view.set, put m (peer c) f i = gathered m c i :=
  fun i hi => by
    unfold gathered
    rw [put_off m c _ i (Finset.disjoint_right.mp (half_disjoint c) hi)]
    exact put_on m (peer c) _ _ i hi

end Cert.KernelIdeal.Gather

end
-- ==== Proof.ScheduleKernelIdeal.lean ====
/-
The four semaphores of a device, and what each of them hands over.

Every device has four semaphores: the barrier semaphore, on which the other device of its pair signals, and one
each for the departure of its remote copy, for the arrival of the other device's, and for its local copy. Each is
raised exactly once and waited for exactly once, so one description serves all four:

  semaphore | raised by                        | by  | what the wait gains
  0 barrier | the other device's signal        | 1   | the half of the OTHER device's result that this device copies into
  1 sent    | this device's remote copy        | N   | one share of this device's block
  2 arrived | the other device's remote copy   | N   | the other half of this device's result, holding the other device's block
  3 copied  | this device's local copy         | N   | its own half of its result, holding its own block, and the other share of the block

`N` is the credit of a copy of one block.
-/
module

public import proofs.«01_k».proof.Proof.RowsKernelIdeal

@[expose] public section

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's own, and the four semaphores' -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state the run starts in: any memory, every semaphore at zero. -/
def s₀ : MemSt nD τ sig (Elt F) := ⟨m, fun _ => 0, ρ⟩

/-! ## The semaphores -/

/-- The barrier semaphore. -/
abbrev barS : Sem sig := (SemArray.scalar (sig.barrier 0 rfl) : Sems sig S_).sem

/-- A device's four semaphores, by number. -/
abbrev slot : Fin 4 → SemLoc sig := fun
  | 0 => .reg barS
  | 1 => .dma cc0_scratch0.sem
  | 2 => .dma cc0_scratch1.sem
  | 3 => .dma cc0_scratch2.sem

/-- Semaphore `k` of device `c`. -/
abbrev at4 (c : Dev nD) (k : Fin 4) : GSem nD τ sig := ((c : Thread nD τ), slot k)

theorem slot_injective : Function.Injective slot := by decide

theorem at4_inj {c c' : Dev nD} {k k' : Fin 4} (h : at4 c k = at4 c' k') : c = c' ∧ k = k' :=
  ⟨Fin.ext (congrArg (fun g : GSem nD τ sig => g.1.1.val) h), slot_injective (congrArg Prod.snd h)⟩

/-- The credit of a copy of one block. -/
@[irreducible] def N : ℕ := (xM : Memref sig .tc .vmem S512x512 .f32).view.dmaCredit
/-- It is the same for the staged block and for either half of the result. -/
theorem credit_x : (xM : Memref sig .tc .vmem S512x512 .f32).view.dmaCredit = N := by unfold N; rfl
theorem credit_half (c : Dev nD) : (half c).view.dmaCredit = N := by unfold N; rfl
theorem N_pos : 0 < N := by rw [← credit_x]; exact View.dmaCredit_pos _ (by decide)

/-- What the one landing on semaphore `k` raises it by. -/
def units (k : Fin 4) : ℕ := if k = 0 then 1 else N
theorem units_copy {k : Fin 4} (hk : k ≠ 0) : units k = N := if_neg hk

/-! ## What is handed over -/

/-- On device `e`, the rows of device `d`'s half, holding `f` there. -/
def rowsPts (e d : Dev nD) (f : Whole F) : sProp 𝕄 := (half d).view.loc (e : Thread nD τ) ↦[(half d).view.set]{fullShare} f

/-- A share of device `c`'s block. -/
def xPart (c : Dev nD) (q : PosShare TreeShare) : sProp 𝕄 := xM.view.loc (c : Thread nD τ) ↦[xM.view.set]{q} xin m c

instance rowsPts_storable (e d : Dev nD) (f : Whole F) : BI.Storable (upEmb : UEmb _ 𝕄) (rowsPts e d f) := by
  unfold rowsPts; infer_instance
instance xPart_storable (c : Dev nD) (q : PosShare TreeShare) : BI.Storable (upEmb : UEmb _ 𝕄) (xPart m c q) := by
  unfold xPart; infer_instance

/-- What device `c` gains at its wait on semaphore `k`. -/
def handed (k : Fin 4) (c : Dev nD) : sProp 𝕄 := match k with
  | 0 => iprop(∃ f, rowsPts (peer c) c f)
  | 1 => xPart m c fullShare.left
  | 2 => rowsPts c (peer c) (gathered m c)
  | 3 => iprop(rowsPts c c (gathered m c) ∗ xPart m c fullShare.right)

instance handed_storable (k : Fin 4) (c : Dev nD) : BI.Storable (upEmb : UEmb _ 𝕄) (handed m k c) := by
  unfold handed; split <;> infer_instance

/-! ## The schedule -/

/-- Each device's four semaphores have one round with one landing, the other semaphores none. -/
def Rd : Rounds.Schedule (GSem nD τ sig) Unit 𝕄 where
  duties g r := if r = 0 ∧ g.1.2 = .tc then {()} else ∅
  unitless _ := False
  amount g _ _ := if g.2 = slot 0 then 1 else N
  payload g _ _ :=
    if g.2 = slot 0 then handed m 0 g.1.1 else if g.2 = slot 1 then handed m 1 g.1.1
    else if g.2 = slot 2 then handed m 2 g.1.1 else handed m 3 g.1.1
  amount_pos g _ _ _ := by
    split
    · exact Nat.one_pos
    · exact N_pos

instance Rd_payload_storable (g : GSem nD τ sig) (r : ℕ) (d : Unit) : BI.Storable (upEmb : UEmb _ 𝕄) ((Rd m).payload g r d) := by
  unfold Rd; dsimp only; (repeat' split) <;> infer_instance

theorem duties_at (c : Dev nD) (k : Fin 4) : (Rd m).duties (at4 c k) 0 = {()} := by
  dsimp only [Rd]; exact if_pos ⟨rfl, rfl⟩
theorem duty_mem (c : Dev nD) (k : Fin 4) : () ∈ (Rd m).duties (at4 c k) 0 := by
  rw [duties_at]; exact Finset.mem_singleton_self _
theorem duties_later (g : GSem nD τ sig) : ∀ r, 1 ≤ r → (Rd m).duties g r = ∅ :=
  fun r hr => by dsimp only [Rd]; exact if_neg (fun h => by have := h.1; omega)

theorem amount_at (c : Dev nD) (k : Fin 4) : (Rd m).amount (at4 c k) 0 () = units k := by
  show (if slot k = slot 0 then 1 else N) = if k = 0 then 1 else N
  simp only [slot_injective.eq_iff]

theorem amount_bar (c : Dev nD) : (Rd m).amount (at4 c 0) 0 () = 1 := amount_at m c 0
theorem amount_copy (c : Dev nD) {k : Fin 4} (hk : k ≠ 0) : (Rd m).amount (at4 c k) 0 () = N := (amount_at m c k).trans (units_copy hk)

theorem payload_at (c : Dev nD) (k : Fin 4) : (Rd m).payload (at4 c k) 0 () = handed m k c := by
  show (if slot k = slot 0 then handed m 0 c else if slot k = slot 1 then handed m 1 c
    else if slot k = slot 2 then handed m 2 c else handed m 3 c) = _
  simp only [slot_injective.eq_iff]
  fin_cases k <;> rfl

/-- Semaphore `k` waits for all that is raised on it, -/
theorem expect_at (c : Dev nD) (k : Fin 4) : (Rd m).expect (at4 c k) 0 = units k := by
  unfold Schedule.expect Schedule.amountOf
  rw [duties_at, Finset.sum_singleton, amount_at]
/-- and the wait gains all that is handed over. -/
theorem rest_at (c : Dev nD) (k : Fin 4) :
    bigSep ((Rd m).duties (at4 c k) 0 \ ∅) (fun d => (Rd m).payload (at4 c k) 0 d) = handed m k c := by
  rw [Finset.sdiff_empty, duties_at, bigSep_singleton, payload_at]

/-! ## What a device owes, and the order of the waits -/

/-- At launch a device owes the other device of its pair the arrival of its block and the barrier signal. -/
def O₀ (c : Dev nD) : CellTallies nD τ sig Unit := tallyAt (at4 (peer c) 2) () N + tallyAt (at4 (peer c) 0) () 1

def L (g : GSem nD τ sig) : Finset Unit := if g.1.2 = .tc then {()} else ∅
/-- Barrier before arrival; the pipeline's own semaphores, and those of copies a device issues itself, before both. -/
def lv (g : GSem nD τ sig) (_ : Unit) : ℕ := if g.2 = slot 0 then 1 else if g.2 = slot 2 then 2 else 0

theorem L_of_ne (g : GSem nD τ sig) (h : g.1.2 ≠ .tc) : L g = ∅ := if_neg h
theorem mem_L (c : Dev nD) (sm : SemLoc sig) : () ∈ L ((c : Thread nD τ), sm) := by
  rw [L, if_pos rfl]; exact Finset.mem_singleton_self _
theorem lv_bar (c : Dev nD) : lv (at4 c 0) () = 1 := if_pos rfl
theorem lv_recv (c : Dev nD) : lv (at4 c 2) () = 2 := by unfold lv; rw [if_neg (by decide : slot 2 ≠ slot 0), if_pos rfl]

/-- Where one tally is positive. -/
theorem tally_pos {g₀ g : GSem nD τ sig} {u : Unit} {n : ℕ} (h : 0 < (tallyAt g₀ () n : CellTallies nD τ sig Unit) g u) : g = g₀ := by
  rw [tallyAt_apply] at h
  by_contra hn
  rw [if_neg (fun h' => hn h'.1)] at h
  exact Nat.lt_irrefl 0 h

/-- What a device owes is at the other device's barrier or arrival semaphore. -/
theorem O₀_pos {c : Dev nD} {g : GSem nD τ sig} {u : Unit} (h : 0 < O₀ c g u) : g = at4 (peer c) 2 ∨ g = at4 (peer c) 0 := by
  unfold O₀ at h
  rw [Pi.add_apply, Finsupp.add_apply] at h
  rcases Nat.lt_or_ge 0 ((tallyAt (at4 (peer c) 2) () N : CellTallies nD τ sig Unit) g u) with h2 | h2
  · exact .inl (tally_pos h2)
  · rw [Nat.le_zero.mp h2, Nat.zero_add] at h
    exact .inr (tally_pos h)

/-- While it owes both, a device may wait on any semaphore that is neither a barrier nor an arrival. -/
theorem mayWait_owing (c : Dev nD) (sm : SemLoc sig) (h0 : sm ≠ slot 0) (h2 : sm ≠ slot 2) :
    (levAts L lv : sProp 𝕄) ⊢ MayWait (c : Thread nD τ) sm () (O₀ c) :=
  MayOwe.of_cut (L := L) (lev := lv) 0
    (fun p hp => by rw [Finset.mem_singleton.mp hp]; exact mem_L c sm)
    (fun g u hg => by rcases O₀_pos hg with rfl | rfl <;> exact mem_L _ _)
    (fun p hp => by
      rw [Finset.mem_singleton.mp hp]
      show (if sm = slot 0 then 1 else if sm = slot 2 then 2 else 0) ≤ 0
      rw [if_neg h0, if_neg h2])
    (fun g u hg => by
      rcases O₀_pos hg with rfl | rfl
      · rw [lv_recv]; decide
      · rw [lv_bar]; decide)

/-- While it owes the arrival only, a device may wait on its barrier semaphore. -/
theorem mayWait_bar (c : Dev nD) :
    (levAts L lv : sProp 𝕄) ⊢ MayWait (c : Thread nD τ) (slot 0) () (tallyAt (at4 (peer c) 2) () N) :=
  MayOwe.of_cut (L := L) (lev := lv) 1
    (fun p hp => by rw [Finset.mem_singleton.mp hp]; exact mem_L c _)
    (fun g u hg => by rw [tally_pos hg]; exact mem_L _ _)
    (fun p hp => by rw [Finset.mem_singleton.mp hp]; exact (lv_bar c).le)
    (fun g u hg => by rw [tally_pos hg, lv_recv]; decide)

/-- Owing nothing, it may wait on any. -/
theorem mayWait_none (c : Dev nD) (sm : SemLoc sig) (P : sProp 𝕄) : P ⊢ MayWait (c : Thread nD τ) sm () 0 := by
  rw [MayWait_zero]; iintro -; iempintro

end Cert.KernelIdeal.Gather

end
-- ==== Proof.BodyKernelIdeal.lean ====
/-
One device's run of the kernel.

From the resources it is dealt at launch — its positions at its four semaphores, what entitles it to raise the four
it raises, its result buffer and its staged block — the kernel body runs to its end on every schedule and leaves
the result buffer at the gathered contents and the four semaphores at zero.
-/
module

public import proofs.«01_k».proof.Proof.ScheduleKernelIdeal

@[expose] public section

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Splitting and joining buffers -/

/-- Device `c`'s result buffer, whole. -/
def resPts (c : Dev nD) (f : Whole F) : sProp 𝕄 := ((c : Thread nD τ).loc main_v1) ↦{fullShare} f
/-- Device `c`'s staged block, whole. -/
def xPts (c : Dev nD) : sProp 𝕄 := ((c : Thread nD τ).loc cc0_stg0_0) ↦{fullShare} xin m c

/-- The whole result is the two halves. -/
theorem resPts_halves (c : Dev nD) (f : Whole F) :
    (resPts c f : sProp 𝕄) ⊣⊢ iprop(rowsPts c c f ∗ rowsPts c (peer c) f) := by
  have h := pointsTo_union (Ix := Unit) (Name := ℕ) (U := UU) (Lvl := ℕ) (ℓ := (c : Thread nD τ).loc main_v1) (q := fullShare) (f := f) (half_disjoint c)
  rw [half_union] at h
  exact h

/-- A half holding contents that agree on it holds either. -/
theorem rowsPts_congr (e d : Dev nD) {f g : Whole F} (h : ∀ i ∈ (half d).view.set, f i = g i) :
    (rowsPts e d f : sProp 𝕄) = rowsPts e d g := by
  unfold rowsPts; exact pointsTo_congr h

/-- The whole block is its two shares. -/
theorem xPts_shares (c : Dev nD) : (xPts m c : sProp 𝕄) ⊣⊢ iprop(xPart m c fullShare.left ∗ xPart m c fullShare.right) := by
  unfold xPts xPart
  rw [show (xM : Memref sig .tc .vmem S512x512 .f32).view.set = Finset.univ from View.set_whole _]
  exact pointsTo_share (PosShare.mem_left_op_right fullShare)

/-! ## What a device starts and ends with -/

/-- All the semaphores' records: each has its invariant and is at its first round. They can be used any number of times. -/
def records (K : Dev nD × Fin 4 → ℕ) : sProp 𝕄 :=
  iprop((bigSep Finset.univ fun ck : Dev nD × Fin 4 => cellInv ER (Rd m) (K ck) (at4 ck.1 ck.2))
    ∗ bigSep Finset.univ fun ck : Dev nD × Fin 4 => reached ER (at4 ck.1 ck.2) 0)

instance records_persistent (K : Dev nD × Fin 4 → ℕ) : BI.Persistent (records m K) := by unfold records; infer_instance

theorem inv_of_records (K : Dev nD × Fin 4 → ℕ) (c : Dev nD) (k : Fin 4) :
    records m K ⊢ cellInv ER (Rd m) (K (c, k)) (at4 c k) := by
  unfold records
  exact (BI.sep_and.trans and_elimL).trans (bigSep_elim (Finset.mem_univ (c, k)))

theorem reached_of_records (K : Dev nD × Fin 4 → ℕ) (c : Dev nD) (k : Fin 4) :
    records m K ⊢ reached ER (at4 c k) 0 := by
  unfold records
  exact (BI.sep_and.trans and_elimR).trans (bigSep_elim (Finset.mem_univ (c, k)))

/-- The semaphore that device `c` raises in the role of number `k`: the other device's barrier and arrival, its own departure and copy. -/
abbrev raises (c : Dev nD) (k : Fin 4) : Dev nD := match k with
  | 0 => peer c | 1 => c | 2 => peer c | 3 => c

/-- A family over the four semaphores, one by one. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Device `c`'s entitlements: to wait on each of its four semaphores, and to raise each of the four it raises. -/
def rights (c : Dev nD) : sProp 𝕄 :=
  iprop((bigSep Finset.univ fun k : Fin 4 => atPos ER (at4 c k) 0 ∅ 0)
    ∗ bigSep Finset.univ fun k : Fin 4 => dutyTok ER (at4 (raises c k) k) 0 ())

/-- The two landings device `c` waits for that others owe it, and the order of the waits. -/
def credits (c : Dev nD) : sProp 𝕄 :=
  iprop(cred (tallyAt (at4 c 0) () 1) ∗ cred (tallyAt (at4 c 2) () N) ∗ levAts L lv)

/-- What device `c` starts with: the records and its entitlements, the credits, and its result buffer as it was. -/
def start (c : Dev nD) : sProp 𝕄 :=
  iprop((∃ K, records m K ∗ rights c) ∗ credits c ∗ resPts c (m ((c : Thread nD τ).loc main_v1)))

/-- What it ends with: its four semaphores at zero and its result buffer at the gathered contents. -/
def finish (c : Dev nD) : sProp 𝕄 :=
  iprop((bigSep Finset.univ fun k : Fin 4 => semVal (at4 c k) 0) ∗ resPts c (gathered m c))

/-- The pipeline's data: one point, its one window staging the block, which the body leaves as it is. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
  Φ t := match t with
    | ⟨0, _⟩ => start m c
    | ⟨_ + 1, _⟩ => finish m c
  q _ := fullShare
  owed t := match t with
    | ⟨0, _⟩ => O₀ c
    | ⟨_ + 1, _⟩ => 0

abbrev 𝒱₀ : Variants := Variants.none

/-! ## The body, rule by rule -/

variable (K : Dev nD × Fin 4 → ℕ)

/-- A wait on semaphore `k` for all that is raised on it gains what is handed over there. -/
theorem wp_gain (c : Dev nD) (k : Fin 4) {w : TpuEff nD τ sig (Elt F) Λ₀ .tc PUnit} {n : ℕ} (hn : n = units k)
    (hw : ∀ J : PUnit → sProp 𝕄, wpE (defs₀ (F := F)) 𝒱₀ (c : Thread nD τ) none Set.univ w J = waitSpec (c : Thread nD τ) Set.univ (slot k) n J)
    {α : Type} {Q : α → sProp 𝕄} {kt : PUnit → Prog (TpuEff nD τ sig (Elt F) Λ₀ .tc) α} {O : CellTallies nD τ sig Unit} {W : Waits sig Unit} :
    iprop(records m K ∗ cred (tallyAt (at4 c k) () (units k)) ∗ owes (c : Thread nD τ) O W ∗ MayWait (c : Thread nD τ) (slot k) () O ∗ atPos ER (at4 c k) 0 ∅ 0)
      ⊢ iprop(((owes (c : Thread nD τ) O (insert (slot k, ()) W) ∗ atPos ER (at4 c k) (0 + 1) ∅ 0 ∗ handed m k c)
            -∗ wp frame (wpE (defs₀ (F := F)) 𝒱₀ (c : Thread nD τ) none) Set.univ (kt ⟨⟩) Q)
          -∗ wp frame (wpE (defs₀ (F := F)) 𝒱₀ (c : Thread nD τ) none) Set.univ (.op w kt) Q) := by
  subst hn
  iintro ⟨#HR, Hc, HO, Hm, Hat⟩ Hk
  iapply (Rounds.wp_wait_rest_token 𝒱₀ ER (Rd m) (c : Thread nD τ) none (κ := K (c, k)) hw (Set.mem_univ _) ()
    (O := O) (W := W) (R := 0) (m := 0) (T := ∅) (by rw [Nat.zero_add, expect_at])) $$ [Hc HO Hm Hat]
  · isplitr; · iapply (inv_of_records m K c k); iexact HR
    isplitl [Hc]; · iexact Hc
    isplitl [HO]; · iexact HO
    isplitl [Hm] <;> iassumption
  iintro ⟨HO, Hat, -, Hpay⟩
  iapply Hk
  isplitl [HO]; · iexact HO
  isplitl [Hat]; · iexact Hat
  ihave Hp := (Entails.of_eq (rest_at m c k)) $$ Hpay
  iexact Hp

/-- What the remote copy leaves on the other device is what its arrival hands over there. -/
theorem landed_there (c : Dev nD) (f : Whole F) :
    (rowsPts (peer c) c (put m c f) : sProp 𝕄) = (Rd m).payload (at4 (peer c) 2) 0 () := by
  rw [payload_at]
  unfold handed
  rw [peer_peer]
  refine rowsPts_congr (peer c) c fun i hi => ?_
  have h := gathered_other m (peer c) f
  rw [peer_peer] at h
  exact h i hi

/-- What the local copy leaves, and the share of the block it read from, are what its end hands over. -/
theorem landed_here (c : Dev nD) (f : Whole F) :
    (iprop(rowsPts c c (put m c f) ∗ xPart m c fullShare.right) : sProp 𝕄) = (Rd m).payload (at4 c 3) 0 () := by
  rw [payload_at]
  unfold handed
  rw [rowsPts_congr c c (gathered_own m c f)]

/-- The barrier signal to the other device (addressed to `n`) hands over this device's other half. -/
theorem wp_tell (c n : Dev nD) (hn : n = peer c) {f : Whole F}
    {α : Type} {Q : α → sProp 𝕄} {kt : PUnit → Prog (TpuEff nD τ sig (Elt F) Λ₀ .tc) α} {W : Waits sig Unit} {u : ℕ} (hu : u = 1) :
    iprop(records m K ∗ owes (c : Thread nD τ) (O₀ c) W ∗ dutyTok ER (at4 (peer c) 0) 0 () ∗ rowsPts c (peer c) f)
      ⊢ iprop((owes (c : Thread nD τ) (tallyAt (at4 (peer c) 2) () N) W
            -∗ wp frame (wpE (defs₀ (F := F)) 𝒱₀ (c : Thread nD τ) none) Set.univ (kt ⟨⟩) Q)
          -∗ wp frame (wpE (defs₀ (F := F)) 𝒱₀ (c : Thread nD τ) none) Set.univ (.op (.semSignal (n : Thread nD τ) barS u) kt) Q) := by
  subst hn hu
  iintro ⟨#HR, HO, Ht, Hrows⟩ Hk
  iapply (Rounds.wp_signal 𝒱₀ ER (Rd m) (c : Thread nD τ) none (dst := (peer c : Thread nD τ)) (κ := K (peer c, 0)) (r := 0) (d := ())
    (duty_mem m (peer c) 0) (amount_bar m (peer c)) () (tallyAt (at4 (peer c) 2) () N) rfl) $$ [HO Ht Hrows]
  · isplitr; · iapply (inv_of_records m K (peer c) 0); iexact HR
    isplitl [HO]; · iexact HO
    isplitl [Ht]; · iexact Ht
    isplitl [Hrows]
    · rw [show (Rd m).payload ((peer c : Thread nD τ), .reg barS) 0 () = handed m 0 (peer c) from payload_at m (peer c) 0]
      unfold handed; rw [peer_peer]
      iexists f; iexact Hrows
    · iapply (reached_of_records m K (peer c) 0); iexact HR
  iexact Hk

/-- The remote copy to the other device (addressed to `n`): this device's block lands in its half of the other's result. -/
theorem wp_give (c n : Dev nD) (hn : n = peer c) {hsc : (half c : Memref sig (Dev.tc n : Thread nD τ).2.kind .hbm S512x512 .f32).view.ref.isScScratch = false}
    {hsrc : (xM : Memref sig .tc .vmem S512x512 .f32).view.WordExact} {hdst : (half c).view.WordExact}
    {hsem : DmaTarget.Typed .vmem (.dma cc0_scratch1.sem) (.remote (Dev.tc n : Thread nD τ) (half c) (.dma cc0_scratch0.sem) hsc)}
    {α : Type} {Q : α → sProp 𝕄} {kt : PUnit → Prog (TpuEff nD τ sig (Elt F) Λ₀ .tc) α} (f : Whole F) (W : Waits sig Unit) :
    iprop(records m K ∗ xPart m c fullShare.left ∗ rowsPts (peer c) c f
        ∗ owes (c : Thread nD τ) (tallyAt (at4 (peer c) 2) () N) W ∗ dutyTok ER (at4 c 1) 0 () ∗ dutyTok ER (at4 (peer c) 2) 0 ())
      ⊢ iprop(((cred (tallyAt (at4 c 1) () N) ∗ owes (c : Thread nD τ) 0 W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma xM (.remote (Dev.tc n : Thread nD τ) (half c) (.dma cc0_scratch0.sem) hsc) (.dma cc0_scratch1.sem) hsrc hdst hsem) kt) Q) := by
  subst hn
  unfold xPart rowsPts
  iintro ⟨#HR, Hx, Hrows, HO, Ht1, Ht2⟩ Hk
  iapply (Rounds.wp_send_pointsTo 𝒱₀ ER (Rd m) (c : Thread nD τ) none (c' := (peer c : Thread nD τ)) (src := xM) (dst := half c) (hsc := hsc) (hsrc := hsrc) (hdst := hdst) (hsem := hsem) (κ₁ := K (c, 1)) (κ₂ := K (peer c, 2))
    (q := fullShare.left) (fs := xin m c) (r₁ := 0) (r₂ := 0) (d₁ := ()) (d₂ := ()) (fd := f)
    (duty_mem m c 1) (duty_mem m (peer c) 2) () () N (credit_half c) (amount_copy m c (k := 1) (by decide)) (amount_copy m (peer c) (k := 2) (by decide)) 0 (by rw [zero_add]) (W := W)
    (Entails.of_eq (payload_at m c 1).symm) (Entails.of_eq (landed_there m c f))) $$ [Hx Hrows HO Ht1 Ht2]
  · isplitr; · iapply (inv_of_records m K c 1); iexact HR
    isplitr; · iapply (inv_of_records m K (peer c) 2); iexact HR
    isplitl [Hx]; · iexact Hx
    isplitl [Hrows]; · iexact Hrows
    isplitl [HO]; · iexact HO
    isplitl [Ht1]; · iexact Ht1
    isplitr; · iapply (reached_of_records m K c 1); iexact HR
    isplitl [Ht2]; · iexact Ht2
    iapply (reached_of_records m K (peer c) 2); iexact HR
  iexact Hk

/-- The local copy: this device's block lands in its half of its own result. -/
theorem wp_keep (c : Dev nD)
    {hsrc : (xM : Memref sig .tc .vmem S512x512 .f32).view.WordExact} {hdst : (half c).view.WordExact}
    {hsem : DmaTarget.Typed (nD := nD) (τ := τ) (p := .tc) .vmem (.dma cc0_scratch2.sem) (.here (half c))}
    {α : Type} {Q : α → sProp 𝕄} {kt : PUnit → Prog (TpuEff nD τ sig (Elt F) Λ₀ .tc) α} (f : Whole F) :
    iprop(records m K ∗ xPart m c fullShare.right ∗ rowsPts c c f ∗ dutyTok ER (at4 c 3) 0 ())
      ⊢ iprop((cred (tallyAt (at4 c 3) () N) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma xM (.here (half c)) (.dma cc0_scratch2.sem) hsrc hdst hsem) kt) Q) := by
  unfold xPart rowsPts
  iintro ⟨#HR, Hx, Hrows, Ht⟩ Hk
  iapply (Rounds.wp_copy_pointsTo 𝒱₀ ER (Rd m) (c : Thread nD τ) none (src := xM) (dst := half c) (hsrc := hsrc) (hdst := hdst) (hsem := hsem) (κ := K (c, 3)) (q := fullShare.right) (fs := xin m c) (r := 0) (d := ())
    (fd := f) (duty_mem m c 3) () N (credit_half c) (amount_copy m c (k := 3) (by decide))
    (Entails.of_eq (landed_here m c f))) $$ [Hx Hrows Ht]
  · isplitr; · iapply (inv_of_records m K c 3); iexact HR
    isplitl [Hx]; · iexact Hx
    isplitl [Hrows]; · iexact Hrows
    isplitl [Ht]; · iexact Ht
    iapply (reached_of_records m K c 3); iexact HR
  iexact Hk

/-- After its wait a semaphore has no further round, so it is at zero and the device has it back. -/
theorem closed (c : Dev nD) (k : Fin 4) : iprop(records m K ∗ atPos ER (at4 c k) (0 + 1) ∅ 0) ⊢ |={Set.univ}=> semVal (at4 c k) 0 := by
  iintro ⟨HR, Hat⟩
  ihave HI := (inv_of_records m K c k) $$ HR
  iapply (Rounds.cell_close ER (Rd m) (Set.mem_univ (K (c, k))) (fun h => h) (R := 0 + 1) (duties_later m (at4 c k)))
  isplitl [HI] <;> iassumption

/-! ## The whole body -/

/-- Buffer `b` of device `c` at contents `X`, in the form in which the pipeline hands staged blocks over. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]

theorem fetches (t : Fin cfg0.N) : (cfg0.win (0 : Fin 1)).fetch t = true := by rw [fin_N0 t]; rfl

/-- What the body is handed at its one point, -/
def bodyPre (c : Dev nD) : sProp 𝕄 :=
  iprop(start m c ∗ (dats m ρ 0 c).owesAt () t0_0.castSucc ∗ (∃ d, staged c cc0_stg0_0 ((dats m ρ 0 c).before (0 : Fin 1) t0_0 d)))
/-- and what it hands back. -/
def bodyPost (c : Dev nD) : sProp 𝕄 :=
  iprop(finish m c ∗ (dats m ρ 0 c).owesAt () t0_0.succ ∗ staged c cc0_stg0_0 (xin m c))

set_option maxHeartbeats 800000 in
/-- The body runs from what it is handed to what it hands back. -/
theorem body_runs (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole main_v1) (Memref.isWhole_whole _)
            cc0_scratch0 cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre start rights credits
  rw [bigSep_four, bigSep_four]
  iintro ⟨⟨⟨⟨%K, #HR, ⟨Ha0, Ha1, Ha2, Ha3⟩, Ht0, Ht1, Ht2, Ht3⟩, ⟨Hc0, Hc2, #Hlev⟩, Hres⟩, Ho, ⟨%d0, %g0, %hg0, Hx⟩⟩, Hk⟩
  have hx : g0 = xin m c := by rw [hg0]; unfold Dat.before; rw [if_pos (fetches t0_0)]; rfl
  subst hx
  unfold Dat.owesAt Pipeline.owesWithin
  icases Ho with ⟨%W, %hW, HO⟩
  rw [show (dats m ρ 0 c).owed t0_0.castSucc = O₀ c from rfl]
  ihave Hhalves := (resPts_halves c (m ((c : Thread nD τ).loc main_v1))).1 $$ Hres
  icases Hhalves with ⟨Hown, Hother⟩
  ihave Hx' := (show (((c : Thread nD τ).loc cc0_stg0_0) ↦{fullShare} xin m c : sProp 𝕄) ⊢ xPts m c from BI.Entails.refl _) $$ Hx
  ihave Hshares := (xPts_shares m c).1 $$ Hx'
  icases Hshares with ⟨HxL, HxR⟩
  -- tell the other device that its half of this result may be written
  iapply (wp_tell m K c _ (signal_dev c) (by decide)) $$ [HO Ht0 Hother]
  · isplitr; · iexact HR
    isplitl [HO]; · iexact HO
    isplitl [Ht0] <;> iassumption
  iintro HO
  -- wait until it says the same
  iapply (wp_gain m K c 0 (by decide) (wpE_semWait_eq 𝒱₀ (c : Thread nD τ) none Set.univ)) $$ [Hc0 HO Ha0]
  · isplitr; · iexact HR
    isplitl [Hc0]; · iexact Hc0
    isplitl [HO]; · iexact HO
    isplitr; · iapply (mayWait_bar c); iexact Hlev
    iexact Ha0
  iintro ⟨HO, Ha0, Hgain⟩
  ihave Hgain' := (show handed m 0 c ⊢ iprop(∃ f, rowsPts (peer c) c f) from BI.Entails.refl _) $$ Hgain
  icases Hgain' with ⟨%f, Hthere⟩
  -- copy the block there
  iapply (wp_give m K c _ (copy_dev c) f _) $$ [HxL Hthere HO Ht1 Ht2]
  · isplitr; · iexact HR
    isplitl [HxL]; · iexact HxL
    isplitl [Hthere]; · iexact Hthere
    isplitl [HO]; · iexact HO
    isplitl [Ht1] <;> iassumption
  iintro ⟨Hc1, HO⟩
  -- and here
  iapply (wp_keep m K c _) $$ [HxR Hown Ht3]
  · isplitr; · iexact HR
    isplitl [HxR]; · iexact HxR
    isplitl [Hown] <;> iassumption
  iintro Hc3
  -- wait for the copy here
  iapply (wp_gain m K c 3 (credit_half c) (wpE_waitDma2_eq 𝒱₀ (c : Thread nD τ) none Set.univ)) $$ [Hc3 HO Ha3]
  · isplitr; · iexact HR
    isplitl [Hc3]; · iexact Hc3
    isplitl [HO]; · iexact HO
    isplitr; · iapply (mayWait_none c _ _); iexact Hlev
    iexact Ha3
  iintro ⟨HO, Ha3, Hgain⟩
  ihave Hgain' := (show handed m 3 c ⊢ iprop(rowsPts c c (gathered m c) ∗ xPart m c fullShare.right) from BI.Entails.refl _) $$ Hgain
  icases Hgain' with ⟨Hown, HxR⟩
  -- for the departure
  iapply (wp_gain m K c 1 credit_x (wpE_waitDma2_eq 𝒱₀ (c : Thread nD τ) none Set.univ)) $$ [Hc1 HO Ha1]
  · isplitr; · iexact HR
    isplitl [Hc1]; · iexact Hc1
    isplitl [HO]; · iexact HO
    isplitr; · iapply (mayWait_none c _ _); iexact Hlev
    iexact Ha1
  iintro ⟨HO, Ha1, Hgain⟩
  ihave HxL := (show handed m 1 c ⊢ xPart m c fullShare.left from BI.Entails.refl _) $$ Hgain
  -- and for the arrival
  iapply (wp_gain m K c 2 (credit_half c) (wpE_waitDma2_eq 𝒱₀ (c : Thread nD τ) none Set.univ)) $$ [Hc2 HO Ha2]
  · isplitr; · iexact HR
    isplitl [Hc2]; · iexact Hc2
    isplitl [HO]; · iexact HO
    isplitr; · iapply (mayWait_none c _ _); iexact Hlev
    iexact Ha2
  iintro ⟨HO, Ha2, Hgain⟩
  ihave Hother := (show handed m 2 c ⊢ rowsPts c (peer c) (gathered m c) from BI.Entails.refl _) $$ Hgain
  -- all four semaphores are at zero
  imod (closed m K c 0) $$ [Ha0] with Hz0
  · isplitr; · iexact HR
    iexact Ha0
  imod (closed m K c 1) $$ [Ha1] with Hz1
  · isplitr; · iexact HR
    iexact Ha1
  imod (closed m K c 2) $$ [Ha2] with Hz2
  · isplitr; · iexact HR
    iexact Ha2
  imod (closed m K c 3) $$ [Ha3] with Hz3
  · isplitr; · iexact HR
    iexact Ha3
  rw [wp_ret]; imodintro
  iapply Hk
  unfold bodyPost finish Dat.owesAt Pipeline.owesWithin
  rw [show (dats m ρ 0 c).owed t0_0.succ = 0 from rfl, bigSep_four]
  isplitl [Hz0 Hz1 Hz2 Hz3 Hown Hother]
  · isplitl [Hz0 Hz1 Hz2 Hz3]
    · isplitl [Hz0]; · iexact Hz0
      isplitl [Hz1]; · iexact Hz1
      isplitl [Hz2] <;> iassumption
    · iapply (resPts_halves c (gathered m c)).2
      isplitl [Hown]; · iexact Hown
      iexact Hother
  isplitl [HO]
  · iexists (insert (slot 2, ()) (insert (slot 1, ()) (insert (slot 3, ()) (insert (slot 0, ()) W))))
    isplitr; · ipureintro; exact fun _ _ => Or.inl trivial
    iexact HO
  iexists _
  isplitr; · (ipureintro; rfl)
  iapply (show xPts m c ⊢ (((c : Thread nD τ).loc cc0_stg0_0) ↦{fullShare} xin m c : sProp 𝕄) from BI.Entails.refl _)
  iapply (xPts_shares m c).2
  isplitl [HxL]; · iexact HxL
  iexact HxR

/-- So the pipeline's obligation for the body holds. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole main_v1) (Memref.isWhole_whole _)
      cc0_scratch0 cc0_scratch1 cc0_scratch2) (fun _ => bodyPost m ρ c)
  iintro H
  iapply (body_runs m ρ c fun _ => bodyPost m ρ c)
  isplitl [H]; · iexact H
  iintro H; iexact H

end Cert.KernelIdeal.Gather

end
-- ==== Proof.RunKernelIdeal.lean ====
/-
The run of the whole program.

At the start the sixty-four semaphores, four on each device, are shared out: every device gets the right to wait on
its own four and the right to raise the four it raises. From there every device's body runs as its own module says,
and when all of them have ended every device's result holds both blocks of its pair, its input is as it was, and
every semaphore is at zero.
-/
module

public import proofs.«01_k».proof.Proof.BodyKernelIdeal

@[expose] public section

noncomputable section

namespace Cert.KernelIdeal.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## All semaphores at once -/

/-- A device and the number of one of its semaphores. -/
abbrev Seat : Type := Dev nD × Fin 4
/-- That semaphore. -/
abbrev seat (x : Seat) : GSem nD τ sig := at4 x.1 x.2

theorem seat_injective : Function.Injective seat := fun _ _ h => Prod.ext (at4_inj h).1 (at4_inj h).2

def seats : Finset (GSem nD τ sig) := Finset.univ.map ⟨seat, seat_injective⟩

/-- The right to raise a semaphore once. -/
abbrev raiseKey (x : Seat) : GSem nD τ sig × ℕ × Unit := (seat x, 0, ())
theorem raiseKey_injective : Function.Injective raiseKey := fun _ _ h => seat_injective (congrArg Prod.fst h)
def raiseKeys : Finset (GSem nD τ sig × ℕ × Unit) := Finset.univ.map ⟨raiseKey, raiseKey_injective⟩

/-- A family over devices of families over their semaphores is a family over all semaphores. -/
theorem bigSep_seats (Φ : Seat → sProp 𝕄) :
    (bigSep Finset.univ fun c : Dev nD => bigSep Finset.univ fun k : Fin 4 => Φ (c, k)) = bigSep Finset.univ Φ :=
  (bigSep_univ_prod Φ).symm

/-- Who raises what is a bijection: the one who raises semaphore `k` of device `c` is `raises c k`, and the other way round. -/
def raising : Seat ≃ Seat where
  toFun x := (raises x.1 x.2, x.2)
  invFun x := (raises x.1 x.2, x.2)
  left_inv := by decide
  right_inv := by decide

/-! ## Sharing out -/

/-- What there is at first for one semaphore: its state, the right to wait on it, the fact that it is at its first round,
    and the right to raise it. -/
def dealt (x : Seat) : sProp 𝕄 :=
  iprop(roundState ER (Rd m) (seat x) 0 ∗ atPos ER (seat x) 0 ∅ 0 ∗ reached ER (seat x) 0 ∗ dutyTok ER (seat x) 0 ())
def dealtTo (c : Dev nD) : sProp 𝕄 := bigSep Finset.univ fun k : Fin 4 => dealt m (c, k)
/-- What a device has once the semaphores' invariants stand. -/
def ready (c : Dev nD) : sProp 𝕄 := iprop(∃ K, records m K ∗ rights c)

def u₀ : UU := (initOf (Pipeline.cells cfgs cellOf_inj) (Pipeline.launchToks cfgs cellOf_inj), initOf seats raiseKeys)

/-- The initial resource is what there is for all semaphores. -/
theorem deal : BI.own (ER (initOf seats raiseKeys)) ⊢ (|==> bigSep Finset.univ (dealtTo m) : sProp 𝕄) := by
  have hs (Φ : GSem nD τ sig → sProp 𝕄) : bigSep seats Φ = bigSep Finset.univ fun x => Φ (seat x) := by
    unfold seats; rw [bigSep_map]; rfl
  have ht : bigSep raiseKeys (fun x => (dutyTok ER x.1 x.2.1 x.2.2 : sProp 𝕄)) = bigSep Finset.univ fun x => dutyTok ER (seat x) 0 () := by
    unfold raiseKeys; rw [bigSep_map]; rfl
  iintro H
  imod (Rounds.fund ER (Rd m) seats raiseKeys) $$ H with ⟨Hst, Hr, Hat, Ht⟩
  imodintro
  ihave Hst' := (Entails.of_eq (hs fun g => roundState ER (Rd m) g 0)) $$ Hst
  ihave Hr' := (Entails.of_eq (hs fun g => reached ER g 0)) $$ Hr
  ihave Hat' := (Entails.of_eq (hs fun g => atPos ER g 0 ∅ 0)) $$ Hat
  ihave Ht' := (Entails.of_eq ht) $$ Ht
  unfold dealtTo
  rw [bigSep_seats (dealt m)]
  unfold dealt
  simp only [bigSep_sep']
  isplitl [Hst']; · iexact Hst'
  isplitl [Hat']; · iexact Hat'
  isplitl [Hr']; · iexact Hr'
  iexact Ht'

/-- The launch's own semaphores of the kernel: departure, arrival and copy. -/
abbrev osem : Fin 3 → SemLoc sig := fun k => slot k.succ
theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop(semVal (at4 c 1) 0 ∗ semVal (at4 c 2) 0 ∗ semVal (at4 c 3) 0) := by
  rw [Pipeline.ownSems0_eq_of_list c osem [0, 1, 2] (by decide) (by decide)]; rfl
/-- The barrier semaphore is the machine's. -/
theorem unscopedSems0_eq (c : Dev nD) : (unscopedSems0 c : sProp 𝕄) = semVal (at4 c 0) 0 := by
  unfold unscopedSems0; rw [bigSep_eq_bigSepL_of_eq [SemLoc.reg barS] (by decide) (by decide)]; rfl

/-- The kernel's own semaphores and the machine's are the four. -/
theorem four_sems (c : Dev nD) :
    (bigSep Finset.univ fun k : Fin 4 => (semVal (at4 c k) 0 : sProp 𝕄)) = iprop(unscopedSems0 c ∗ Pipeline.ownSems0 osem c) := by
  rw [ownSems0_eq, unscopedSems0_eq, bigSep_four]

/-- The semaphores at zero and their first states make all their invariants. -/
theorem allocate :
    iprop((bigSep Finset.univ fun x : Seat => semVal (seat x) 0) ∗ bigSep Finset.univ fun x : Seat => roundState ER (Rd m) (seat x) 0)
      ⊢ (|={Set.univ}=> iprop(∃ K : Seat → ℕ, bigSep Finset.univ fun x => cellInv ER (Rd m) (K x) (seat x)) : sProp 𝕄) := by
  rw [← bigSep_sep']
  exact ((bigSep_mono fun x _ => (Rounds.body_intro ER (Rd m) (seat x)).trans inv_alloc).trans (bigSep_fupd _ _)).trans
    (BI.fupd_mono (BI.bigSep_exists_pi Finset.univ fun (x : Seat) (κ : ℕ) => (cellInv ER (Rd m) κ (seat x) : sProp 𝕄)))

/-- The rights to wait, by device, and the rights to raise, each given to the device that raises. -/
theorem give_rights :
    iprop((bigSep Finset.univ fun x : Seat => atPos ER (seat x) 0 ∅ 0) ∗ bigSep Finset.univ fun x : Seat => dutyTok ER (seat x) 0 ())
      ⊢ (bigSep Finset.univ fun c : Dev nD => rights c : sProp 𝕄) := by
  unfold rights
  rw [bigSep_univ_equiv raising fun x : Seat => (dutyTok ER (seat x) 0 () : sProp 𝕄), bigSep_sep',
    bigSep_seats (fun x => (atPos ER (seat x) 0 ∅ 0 : sProp 𝕄)),
    bigSep_seats (fun x => (dutyTok ER (at4 (raises x.1 x.2) x.2) 0 () : sProp 𝕄))]
  exact BI.Entails.refl _

/-- All devices made ready. -/
theorem share_out :
    (bigSep Finset.univ fun c => iprop(Pipeline.ownSems0 (Ix := Unit) (Name := ℕ) (U := UU) (Lvl := ℕ) (Val := Elt F) (τ := τ) osem c ∗ unscopedSems0 c ∗ dealtTo m c) : sProp 𝕄)
      ⊢ |={Set.univ}=> bigSep Finset.univ (ready m) := by
  have hsplit : (bigSep Finset.univ fun c => iprop(Pipeline.ownSems0 (Ix := Unit) (Name := ℕ) (U := UU) (Lvl := ℕ) (Val := Elt F) (τ := τ) osem c ∗ unscopedSems0 c ∗ dealtTo m c) : sProp 𝕄)
      ⊢ iprop((bigSep Finset.univ fun x : Seat => semVal (seat x) 0) ∗ bigSep Finset.univ (dealt m)) := by
    rw [← bigSep_seats (fun x => (semVal (seat x) 0 : sProp 𝕄)), ← bigSep_seats (dealt m), ← bigSep_sep']
    refine bigSep_mono fun c _ => ?_
    show _ ⊢ iprop((bigSep Finset.univ fun k : Fin 4 => (semVal (at4 c k) 0 : sProp 𝕄)) ∗ dealtTo m c)
    rw [four_sems]
    iintro ⟨Ho, Hu, Hd⟩
    isplitl [Ho Hu]
    · isplitl [Hu] <;> iassumption
    · iexact Hd
  refine hsplit.trans ?_
  unfold dealt
  simp only [bigSep_sep']
  iintro ⟨Hv, Hst, Hat, #Hr, Ht⟩
  imod (allocate m) $$ [Hv Hst] with ⟨%K, #HI⟩
  · isplitl [Hv] <;> iassumption
  imodintro
  ihave Hrights := (give_rights (F := F)) $$ [Hat Ht]
  · isplitl [Hat] <;> iassumption
  have hready : iprop(records m K ∗ bigSep Finset.univ fun c : Dev nD => rights c) ⊢ (bigSep Finset.univ (ready m) : sProp 𝕄) := by
    refine (sep_mono_left (BI.bigSep_of_persistent (Finset.univ : Finset (Dev nD)) (records m K))).trans ?_
    rw [← bigSep_sep']
    refine bigSep_mono fun c _ => ?_
    show iprop(records m K ∗ rights c) ⊢ iprop(∃ K, records m K ∗ rights c)
    iintro H
    iexists K
    iexact H
  iapply hready
  isplitr
  · unfold records
    isplitr
    · iexact HI
    · iexact Hr
  · iexact Hrights

/-! ## The credits -/

/-- What the other device of its pair owes a device at its semaphore `k`. -/
def dues (k : Fin 4) : ℕ := (if k = 2 then N else 0) + if k = 0 then 1 else 0

theorem owed_at (d c : Dev nD) (k : Fin 4) : O₀ d (at4 c k) () = if d = peer c then dues k else 0 := by
  have h (j : Fin 4) : at4 c k = at4 (peer d) j ↔ d = peer c ∧ k = j := by
    constructor
    · intro e
      exact ⟨by rw [(at4_inj e).1, peer_peer], (at4_inj e).2⟩
    · rintro ⟨rfl, rfl⟩
      rw [peer_peer]
  unfold O₀ dues
  rw [Pi.add_apply, Finsupp.add_apply, tallyAt_apply, tallyAt_apply]
  simp only [h, _root_.and_true]
  by_cases hd : d = peer c
  · simp only [hd, _root_.true_and, if_true]
  · simp only [hd, _root_.false_and, if_false]

theorem launched_at (c : Dev nD) (k : Fin 4) :
    tallyOn (at4 c k) (launchCredit (Pipeline.owing O₀) 0 (at4 c k)) = (tallyAt (at4 c k) () (dues k) : CellTallies nD τ sig Unit) := by
  unfold tallyAt
  refine congrArg _ (Finsupp.ext fun u => ?_)
  cases u
  rw [Pipeline.launchCredit_owing, Finsupp.single_eq_same, Finset.sum_congr rfl fun d _ => owed_at d c k,
    Finset.sum_ite_eq' Finset.univ (peer c) fun _ => dues k, if_pos (Finset.mem_univ _)]

theorem dues_bar : dues 0 = 1 := by unfold dues; rw [if_neg (by decide), if_pos rfl]
theorem dues_recv : dues 2 = N := by unfold dues; rw [if_pos rfl, if_neg (by decide), Nat.add_zero]

/-- The credits of the launch hold those for the barrier and the arrival. -/
theorem two_credits (c : Dev nD) :
    (Pipeline.launchCred O₀ c : sProp 𝕄) ⊢ iprop(cred (tallyAt (at4 c 0) () 1) ∗ cred (tallyAt (at4 c 2) () N)) := by
  unfold Pipeline.launchCred
  rw [bigSep_univ_at _ (slot 0), launched_at c 0, dues_bar]
  refine sep_mono_right ?_
  rw [← dues_recv, ← launched_at c 2]
  exact bigSep_elim (Finset.mem_erase.mpr ⟨by decide, Finset.mem_univ _⟩)

/-! ## Start and end -/

theorem share_eq (c : Dev nD) (w : Fin cfg0.W) : (dats m ρ 0 c).share w = fullShare := by unfold Dat.share; split <;> rfl

/-- What the launch leaves a device with is what it starts from; -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m c)
      ⊢ |={Set.univ}=> iprop(start m c ∗ emp) := by
  rw [Pipeline.unscopedRestP_none, unscopedRest0_eq]
  iintro ⟨Hres, Hlev, Hcr, -, Hg⟩
  ihave Hc := (two_credits (F := F) c) $$ Hcr
  icases Hc with ⟨H0, H2⟩
  imodintro
  unfold start ready credits resPts
  isplitl
  · isplitl [Hg]; · iexact Hg
    isplitl [H0 H2 Hlev]
    · isplitl [H0]; · iexact H0
      isplitl [H2] <;> iassumption
    · iexact Hres
  · iempintro

theorem first (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m c from rfl]
  iintro ⟨H, -, -⟩
  iexact H

/-- what it ends with is the machine's semaphore and the kernel's own at zero, and the result. -/
theorem last (c : Dev nD) :
    (dats m ρ 0 c).Φ (Fin.last cfg0.N)
      ⊢ iprop((unscopedSems0 c ∗ resPts c (gathered m c)) ∗ Pipeline.ownSems0 osem c ∗ Pipeline.scopedRest cfg0.spec c) := by
  rw [show (dats m ρ 0 c).Φ (Fin.last cfg0.N) = finish m c from rfl, scopedRest0_eq]
  unfold finish
  rw [four_sems]
  iintro ⟨⟨Hu, Ho⟩, Hr⟩
  isplitl [Hu Hr]
  · isplitl [Hu] <;> iassumption
  · isplitl [Ho]; · iexact Ho
    iempintro

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_owing c _ (by fin_cases w <;> fin_cases s <;> decide) (by fin_cases w <;> fin_cases s <;> decide)
    · exact mayWait_none c _ _

/-- What is read off device `c` at the end: its unscoped semaphores and its result. -/
def Reads (c : Dev nD) (s : MemSt nD τ sig (Elt F)) : Prop :=
  (∀ sm : SemLoc sig, sm.isScoped .tc = false → s.sem ((c.tc : Thread nD τ), sm) = 0) ∧ s.mem ((c : Thread nD τ).loc main_v1) = gathered m c

theorem reads (c : Dev nD) (s' : Phys nD τ sig (Elt F)) :
    iprop((unscopedSems0 c ∗ resPts c (gathered m c)) ∗ emp ∗ SI s') ⊢ |={Set.univ}=> iprop(⌜Reads m c s'.mem⌝ ∗ (SI s' : sProp 𝕄)) := by
  unfold resPts
  iintro ⟨⟨Hu, Hr⟩, -, HSI⟩
  icombine HSI Hr gives %hr
  imod (Pipeline.unscopedSems0_read (X := unscopedSems0 c) (c := c) fupd_intro s') $$ [Hu HSI] with ⟨%hu, HSI⟩
  · isplitl [Hu] <;> iassumption
  imodintro
  isplitr; · ipureintro; exact ⟨hu, Buf.eq_of_forall_mem_univ hr⟩
  iexact HSI

/-! ## The run -/

/-- What holds at the end: on every device the result is the gathered contents and the input is as it was, and every
    semaphore is at zero. -/
def Ends (r : PUnit × MemSt nD τ sig (Elt F)) : Prop :=
  (∀ c : Dev nD, r.2.mem ((c : Thread nD τ).loc main_v1) = gathered m c
    ∧ r.2.mem ((c : Thread nD τ).loc main_arg0) = m ((c : Thread nD τ).loc main_arg0))
  ∧ r.2.sem = fun _ => 0

set_option maxRecDepth 8000 in
/-- From any memory with every semaphore at zero, for any float values, the program ends on every fair schedule and in
    every final state that holds. -/
theorem run : θ_run defs (onTc (τ := τ) (main (F := F))) (s₀ m ρ) (Ends m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w; exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := dealtTo m) (G' := ready m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := share_out m)
    (hA := fun _ _ => rfl) (hpf := fun _ k => k.elim0)
    (X := start m) (Y := fun c => iprop(unscopedSems0 c ∗ resPts c (gathered m c))) (Z := fun _ => iprop(emp))
    (hX := start_intro m ρ) (hin := first m ρ) (hout := last m ρ)
    (QY := Reads m) (hY := reads m)
    (hQ := fun _ h hs => ⟨fun c => ⟨(h c).2.2.2, ((h c).1 (0 : Fin 1)).trans ((dats m ρ 0 c).arrAt_in (0 : Fin 1) rfl _)⟩,
      sem_eq_zero hs fun c => (h c).2.2.1⟩)

end Cert.KernelIdeal.Gather

end
-- ==== Proof.ResultKernelIdeal.lean ====
/-
What the gathered contents are.

If every device's input is its block of one whole array — the upper half where its `y` is 0, the lower half where
it is 1 — the gathered contents are that array, on every device.
-/
module

public import proofs.«01_k».proof.Proof.RowsKernelIdeal
public import Idealize.ShloMosaic.Lib.Layout

@[expose] public section

noncomputable section

namespace Cert.KernelIdeal.Gather

open Cert.KernelIdeal Cert.KernelIdeal.Gen
open Idealize.ShloMosaic Idealize.ShloMosaic.TcCoe

variable {F : FTy → Type} [FloatOps F]
variable (m : (ℓ : Loc nD τ sig) → Buf (Elt F) ℓ)

/-- The pipeline's one block is the whole input. -/
theorem xin_eq (c : Dev nD) : xin m c = m ((c : Thread nD τ).loc main_arg0) := by
  unfold xin iblk
  funext x
  refine congrArg (m ((c : Thread nD τ).loc main_arg0)) (funext fun a => Fin.ext ?_)
  show _ + 1 * (x a : ℕ) = (x a : ℕ)
  rw [Nat.one_mul]
  fin_cases a <;> exact Nat.zero_add _

/-- The number of the block of the whole array that device `c` holds is its side. -/
theorem block_of (c : Dev nD) : ((Layout.meshBlock [2, 2, 4] ![[1], []] c) 0 : ℕ) = side c := by
  revert c; decide

/-- Device `d`'s block of `v`, written into its half, is `v` there. -/
theorem put_block (v : Whole F) (d : Dev nD) (f : Whole F)
    (h : m ((d : Thread nD τ).loc main_arg0) = Layout.blockN ⟨2, ![512, 512]⟩ ⟨2, ![1024, 512]⟩ (Layout.meshBlock [2, 2, 4] ![[1], []] d) v) :
    ∀ i ∈ (half d).view.set, put m d f i = v i := by
  intro i hi
  obtain ⟨x, -, rfl⟩ := Finset.mem_map.mp hi
  unfold put
  rw [View.write_emb_of_mem _ _ (Finset.mem_univ x), xin_eq, h]
  refine congrArg v (funext fun b => Fin.ext ?_)
  fin_cases b
  · show ((Layout.meshBlock [2, 2, 4] ![[1], []] d) 0 : ℕ) * 512 + (x 0 : ℕ) = k0_off1 d 0 + 1 * (x 0 : ℕ)
    rw [block_of, k0_off1_eq]
    show side d * 512 + _ = 512 * side d + _
    omega
  · show ((Layout.meshBlock [2, 2, 4] ![[1], []] d) 1 : ℕ) * 512 + (x 1 : ℕ) = k0_off1 d 1 + 1 * (x 1 : ℕ)
    rw [k0_off1_eq]
    show 0 * 512 + _ = 0 + _
    omega

/-- The gathered contents are the whole array. -/
theorem gathered_eq (v : Whole F)
    (h : ∀ d : Dev nD, m ((d : Thread nD τ).loc main_arg0) = Layout.blockN ⟨2, ![512, 512]⟩ ⟨2, ![1024, 512]⟩ (Layout.meshBlock [2, 2, 4] ![[1], []] d) v)
    (c : Dev nD) : gathered m c = v := by
  funext i
  have hi : i ∈ (half c).view.set ∪ (half (peer c)).view.set := by rw [half_union]; exact Finset.mem_univ i
  rcases Finset.mem_union.mp hi with hi | hi
  · rw [← gathered_own m c v i hi]
    exact put_block m v c v (h c) i hi
  · rw [← gathered_other m c v i hi]
    exact put_block m v (peer c) v (h (peer c)) i hi

end Cert.KernelIdeal.Gather

end
-- ==== Proof.Reference.lean ====
module

public import Idealize.ShloMosaic.Lib.StableHlo.Run
public import Idealize.ShloMosaic.Lib.Quiescent
public import proofs.«01_k».proof.Proof.Gen.ReferenceIdeal

@[expose] public section

noncomputable section

namespace Cert.ReferenceIdeal.Whole

open Idealize.ShloMosaic Idealize.SL.Sem
open Idealize.ShloMosaic.StableHlo

variable {F : FTy → Type} [FloatOps F]

/-- The reference does nothing: from any memory with zero counters it ends with its array unchanged and the counters
    still zero (it has none). -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0))
        ∧ r.2.sem = fun _ => 0 :=
  (θ_run _ _ _).mono
    (fun r hr => ⟨fun c => hr c main_arg0, sem_eq_zero_of_no_sems rfl r.2⟩)
    (run_seq (by decide) (by decide) defs main (fun _ => []) (fun _ => rfl) (fun _ => trivial) m ρ)

end Cert.ReferenceIdeal.Whole
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RunKernel
public import proofs.«01_k».proof.Proof.RunKernelIdeal
public import proofs.«01_k».proof.Proof.ResultKernelIdeal
public import proofs.«01_k».proof.Proof.Reference
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => (θ_run _ _ _).mono (fun _ hr => ⟨fun c => (hr.1 c).2, hr.2⟩) (Cert.Kernel.Gather.run m g),
  fun m g _ => (θ_run _ _ _).mono (fun _ hr => ⟨fun c => (hr.1 c).2, hr.2⟩) (Cert.KernelIdeal.Gather.run m g),
  fun m g _ => Cert.ReferenceIdeal.Whole.run m g,
  trivial,
  fun m g m' g' _ h => ⟨_,
    (θ_run _ _ _).mono
      (fun _ hr c => ⟨(hr.1 c).1.trans (Cert.KernelIdeal.Gather.gathered_eq m _ h c), (hr.1 c).2⟩)
      (Cert.KernelIdeal.Gather.run m g),
    (θ_run _ _ _).mono (fun _ hr => ⟨hr.1 0, hr.1 0⟩) (Cert.ReferenceIdeal.Whole.run m' g')⟩⟩

end Cert.Proof

end
